-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_borders [hPre_sorted_borders : Cert.Pre_sorted_borders.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_borders.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_borders [hPre_sorted_borders : Cert.Pre_sorted_borders.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_borders.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_borders [hKernelIdeal : Cert.KernelIdeal.Facts] [hPre_sorted_borders : Cert.Pre_sorted_borders.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_borders m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_borders [hReferenceIdeal : Cert.ReferenceIdeal.Facts] [hPre_sorted_borders : Cert.Pre_sorted_borders.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_borders m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_borders [hKernelIdeal : Cert.KernelIdeal.Facts] [hReferenceIdeal : Cert.ReferenceIdeal.Facts] [hPre_sorted_borders : Cert.Pre_sorted_borders.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_borders m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_borders : Cert.Pre_sorted_borders.Facts),
    quiescent_Kernel (hKernel := hKernel)
    ∧ quiescent_KernelIdeal (hKernelIdeal := hKernelIdeal)
    ∧ quiescent_KernelIdeal_pre_sorted_borders (hKernelIdeal := hKernelIdeal) (hPre_sorted_borders := hPre_sorted_borders)
    ∧ quiescent_ReferenceIdeal (hReferenceIdeal := hReferenceIdeal)
    ∧ quiescent_ReferenceIdeal_pre_sorted_borders (hReferenceIdeal := hReferenceIdeal) (hPre_sorted_borders := hPre_sorted_borders)
    ∧ preserves_Kernel_KernelIdeal
    ∧ algebraic_KernelIdeal_ReferenceIdeal_pre_sorted_borders (hKernelIdeal := hKernelIdeal) (hReferenceIdeal := hReferenceIdeal) (hPre_sorted_borders := hPre_sorted_borders)
-- ==== Pre_sorted_borders.lean ====
abbrev S32768x64 : Shape := ⟨2, ![32768, 64]⟩
abbrev S32768 : Shape := ⟨1, ![32768]⟩
abbrev S65 : Shape := ⟨1, ![65]⟩
abbrev S64 : Shape := ⟨1, ![64]⟩
abbrev S_ : Shape := ⟨0, ![]⟩
abbrev S1 : Shape := ⟨1, ![1]⟩

class Facts : Prop where
  slices_S65_S64_0 : S65.Slices ![0] S64
  slices_S65_S64_1 : S65.Slices ![1] S64
  reducesTo_S64_S_d0 : S64.ReducesTo [0] S_
  h_S_ : 0 < S_.numel
  slices_S65_S1_0 : S65.Slices ![0] S1
  slices_S65_S1_1 : S65.Slices ![1] S1
  reducesTo_S1_S_d0 : S1.ReducesTo [0] S_
  slices_S65_S1_63 : S65.Slices ![63] S1
  slices_S65_S1_64 : S65.Slices ![64] S1
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x64 .f32) (main_arg1 : FVec F S32768 .f32) (main_arg2 : FVec F S65 .f32) : IVec S_ 1 :=
  let main_v0 : FVec F S64 .f32 := (extractStridedSlice S64 ![0] · slices_S65_S64_0) main_arg2
  let main_v1 : FVec F S64 .f32 := (extractStridedSlice S64 ![1] · slices_S65_S64_1) main_arg2
  let main_v2 : IVec S64 1 := cmpf .ole main_v0 main_v1
  let main_c : IVec S_ 1 := constantI S_ 1 1#1
  let main_v3 : IVec S_ 1 := (fun x v => Host.reduce IntOp.andi x v reducesTo_S64_S_d0 h_S_) main_v2 main_c
  let main_v4 : FVec F S1 .f32 := (extractStridedSlice S1 ![0] · slices_S65_S1_0) main_arg2
  let main_v5 : FVec F S1 .f32 := (extractStridedSlice S1 ![1] · slices_S65_S1_1) main_arg2
  let main_v6 : IVec S1 1 := cmpf .olt main_v4 main_v5
  let main_c_0 : IVec S_ 1 := constantI S_ 1 1#1
  let main_v7 : IVec S_ 1 := (fun x v => Host.reduce IntOp.andi x v reducesTo_S1_S_d0 h_S_) main_v6 main_c_0
  let main_v8 : IVec S_ 1 := andi main_v3 main_v7
  let main_v9 : FVec F S1 .f32 := (extractStridedSlice S1 ![63] · slices_S65_S1_63) main_arg2
  let main_v10 : FVec F S1 .f32 := (extractStridedSlice S1 ![64] · slices_S65_S1_64) main_arg2
  let main_v11 : IVec S1 1 := cmpf .olt main_v9 main_v10
  let main_c_1 : IVec S_ 1 := constantI S_ 1 1#1
  let main_v12 : IVec S_ 1 := (fun x v => Host.reduce IntOp.andi x v reducesTo_S1_S_d0 h_S_) main_v11 main_c_1
  let main_v13 : IVec S_ 1 := andi main_v8 main_v12
  let main_cst : FVec F S_ .f32 := constant S_ .f32 0xFF800000#32
  let main_v14 : FVec F S32768 .f32 := broadcastInDim S32768 ![] bcast_S_S32768 main_cst
  let main_v15 : IVec S32768 1 := cmpf .ogt main_arg1 main_v14
  let main_c_2 : IVec S_ 1 := constantI S_ 1 1#1
  let main_v16 : IVec S_ 1 := (fun x v => Host.reduce IntOp.andi x v reducesTo_S32768_S_d0 h_S_) main_v15 main_c_2
  let main_v17 : IVec S_ 1 := andi main_v13 main_v16
  main_v17
-- ==== Kernel.lean ====
abbrev S32768x64 : Shape := ⟨2, ![32768, 64]⟩
abbrev S32768 : Shape := ⟨1, ![32768]⟩
abbrev S65 : Shape := ⟨1, ![65]⟩
abbrev S2x16384x64 : Shape := ⟨3, ![2, 16384, 64]⟩
abbrev S32768x1 : Shape := ⟨2, ![32768, 1]⟩
abbrev S1x65 : Shape := ⟨2, ![1, 65]⟩
abbrev S2x16384 : Shape := ⟨2, ![2, 16384]⟩
abbrev S1x1 : Shape := ⟨2, ![1, 1]⟩
abbrev S2x4096x64 : Shape := ⟨3, ![2, 4096, 64]⟩
abbrev S4096x1 : Shape := ⟨2, ![4096, 1]⟩
abbrev S2x4096 : Shape := ⟨2, ![2, 4096]⟩
abbrev S1x4096x64 : Shape := ⟨3, ![1, 4096, 64]⟩
abbrev S4096x64 : Shape := ⟨2, ![4096, 64]⟩
abbrev S4096x128 : Shape := ⟨2, ![4096, 128]⟩
abbrev S1x64 : Shape := ⟨2, ![1, 64]⟩
abbrev S1x128 : Shape := ⟨2, ![1, 128]⟩
abbrev S128x2 : Shape := ⟨2, ![128, 2]⟩
abbrev S1x2x4096 : Shape := ⟨3, ![1, 2, 4096]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S32768x64, .f32⟩
  | .hbm, ⟨1, _⟩ => ⟨S32768, .f32⟩
  | .hbm, ⟨2, _⟩ => ⟨S65, .f32⟩
  | .hbm, ⟨3, _⟩ => ⟨S2x16384x64, .f32⟩
  | .hbm, ⟨4, _⟩ => ⟨S32768x1, .f32⟩
  | .hbm, ⟨5, _⟩ => ⟨S1x65, .f32⟩
  | .hbm, ⟨6, _⟩ => ⟨S2x16384, .f32⟩
  | .hbm, ⟨7, _⟩ => ⟨S1x1, .f32⟩
  | .hbm, ⟨8, _⟩ => ⟨S32768, .f32⟩
  | .hbm, ⟨9, _⟩ => ⟨S_, .f32⟩
  | .local _ .vmem, ⟨0, _⟩ => ⟨S2x4096x64, .f32⟩
  | .local _ .vmem, ⟨1, _⟩ => ⟨S2x4096x64, .f32⟩
  | .local _ .vmem, ⟨2, _⟩ => ⟨S4096x1, .f32⟩
  | .local _ .vmem, ⟨3, _⟩ => ⟨S4096x1, .f32⟩
  | .local _ .vmem, ⟨4, _⟩ => ⟨S4096x1, .f32⟩
  | .local _ .vmem, ⟨5, _⟩ => ⟨S4096x1, .f32⟩
  | .local _ .vmem, ⟨6, _⟩ => ⟨S1x65, .f32⟩
  | .local _ .vmem, ⟨7, _⟩ => ⟨S2x4096, .f32⟩
  | .local _ .vmem, ⟨8, _⟩ => ⟨S2x4096, .f32⟩
  | .local _ .vmem, ⟨9, _⟩ => ⟨S1x1, .f32⟩
  | .local _ .vmem, ⟨10, _⟩ => ⟨S1x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32768x64 : Shape := ⟨2, ![32768, 64]⟩
abbrev S32768 : Shape := ⟨1, ![32768]⟩
abbrev S65 : Shape := ⟨1, ![65]⟩
abbrev S64 : Shape := ⟨1, ![64]⟩
abbrev S1x65 : Shape := ⟨2, ![1, 65]⟩
abbrev S32768x1 : Shape := ⟨2, ![32768, 1]⟩
abbrev S32768x65 : Shape := ⟨2, ![32768, 65]⟩
abbrev S_ : Shape := ⟨0, ![]⟩
abbrev S1x64 : Shape := ⟨2, ![1, 64]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768, .f32⟩
  | .hbm, ⟨2, _⟩ => ⟨S65, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x65, .f32⟩
  | .hbm, ⟨7, _⟩ => ⟨S32768x1, .f32⟩
  | .hbm, ⟨8, _⟩ => ⟨S32768x65, .f32⟩
  | .hbm, ⟨9, _⟩ => ⟨S32768x65, .f32⟩
  | .hbm, ⟨10, _⟩ => ⟨S32768x65, .i1⟩
  | .hbm, ⟨11, _⟩ => ⟨S32768x65, .i32⟩
  | .hbm, ⟨12, _⟩ => ⟨S_, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S_, .f32⟩
  | .hbm, ⟨26, _⟩ => ⟨S32768, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768x1, .f32⟩
  | .hbm, ⟨31, _⟩ => ⟨S32768x64, .f32⟩
  | .hbm, ⟨32, _⟩ => ⟨S32768x64, .f32⟩
  | .hbm, ⟨33, _⟩ => ⟨S32768x64, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S32768x1, .f32⟩
  | .hbm, ⟨38, _⟩ => ⟨S32768x64, .f32⟩
  | .hbm, ⟨39, _⟩ => ⟨S32768x64, .f32⟩
  | .hbm, ⟨40, _⟩ => ⟨S64, .f32⟩
  | .hbm, ⟨41, _⟩ => ⟨S1x64, .f32⟩
  | .hbm, ⟨42, _⟩ => ⟨S32768x64, .f32⟩
  | .hbm, ⟨43, _⟩ => ⟨S32768x64, .f32⟩
  | .hbm, ⟨44, _⟩ => ⟨S32768x1, .i32⟩
  | .hbm, ⟨45, _⟩ => ⟨S_, .i32⟩
  | .hbm, ⟨46, _⟩ => ⟨S32768x1, .i32⟩
  | .hbm, ⟨47, _⟩ => ⟨S32768x1, .i1⟩
  | .hbm, ⟨48, _⟩ => ⟨S_, .i32⟩
  | .hbm, ⟨49, _⟩ => ⟨S32768x1, .i32⟩
  | .hbm, ⟨50, _⟩ => ⟨S32768x1, .i32⟩
  | .hbm, ⟨51, _⟩ => ⟨S32768x1, .i32⟩
  | .hbm, ⟨52, _⟩ => ⟨S32768x1x1, .i32⟩
  | .hbm, ⟨53, _⟩ => ⟨S1, .i32⟩
  | .hbm, ⟨54, _⟩ => ⟨S_, .i32⟩
  | .hbm, ⟨55, _⟩ => ⟨S32768x1x1, .i32⟩
  | .hbm, ⟨56, _⟩ => ⟨S32768x1x1, .i1⟩
  | .hbm, ⟨57, _⟩ => ⟨S1x1x1, .i32⟩
  | .hbm, ⟨58, _⟩ => ⟨S32768x1x1, .i32⟩
  | .hbm, ⟨59, _⟩ => ⟨S32768x1x1, .i1⟩
  | .hbm, ⟨60, _⟩ => ⟨S32768x1x1, .i1⟩
  | .hbm, ⟨61, _⟩ => ⟨S_, .i1⟩
  | .hbm, ⟨62, _⟩ => ⟨S32768x1, .i1⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v19 : Ref sig .tc := ⟨.hbm, 66, rfl⟩
abbrev main_v20 : Ref sig .tc := ⟨.hbm, 67, rfl⟩
abbrev main_cst : Ref sig .tc := ⟨.hbm, 68, rfl⟩
abbrev main_v21 : Ref sig .tc := ⟨.hbm, 69, rfl⟩
abbrev main_cst_3 : Ref sig .tc := ⟨.hbm, 70, rfl⟩
abbrev main_v22 : Ref sig .tc := ⟨.hbm, 71, rfl⟩
abbrev main_v23 : Ref sig .tc := ⟨.hbm, 72, rfl⟩

abbrev nD : Nat := 1
abbrev τ : Topo := Topo.v7x

variable {F : FTy → Type} [FloatOps F]
-- ==== Proof.Row.lean ====
module

public import Idealize.ShloMosaic.PureOps.Ideal
public import Mathlib.Order.Interval.Finset.Fin

@[expose] public section
/-! One token, over the extended reals: 64 logits, one target and 65 bin borders. The two spellings of
the token's log probability, and the proof that they are equal when the borders never decrease, the
first and the last bin have positive width, and the target is not minus infinity. -/
noncomputable section
namespace Cert.BarDist
open Idealize.ShloMosaic

/-- How many borders lie strictly below the target. -/
def belowCount (b : Fin 65 → EReal) (y : EReal) : ℕ := (Finset.univ.filter fun j => b j < y).card

/-- There are 65 borders to count. -/
theorem belowCount_le (b : Fin 65 → EReal) (y : EReal) : belowCount b y ≤ 65 :=
  (Finset.card_le_univ _).trans (by simp)

/-- The bin the target falls in: the count less one, clipped to the 64 bins. -/
def bin (b : Fin 65 → EReal) (y : EReal) : Fin 64 := ⟨min 63 (belowCount b y - 1), by omega⟩

/-- With increasing borders, those below the target are the first ones. -/
theorem border_lt_iff {b : Fin 65 → EReal} (hb : Monotone b) (y : EReal) (j : Fin 65) :
    b j < y ↔ j.val < belowCount b y := by
  constructor
  · intro h
    have hs : Finset.Iic j ⊆ Finset.univ.filter fun i => b i < y := fun i hi => by
      simp only [Finset.mem_Iic, Finset.mem_filter, Finset.mem_univ, true_and] at hi ⊢
      exact (hb hi).trans_lt h
    have hc := Finset.card_le_card hs
    rw [Fin.card_Iic] at hc
    exact hc
  · intro h
    by_contra hn
    have hs : (Finset.univ.filter fun i => b i < y) ⊆ Finset.Iio j := fun i hi => by
      simp only [Finset.mem_Iio, Finset.mem_filter, Finset.mem_univ, true_and] at hi ⊢
      by_contra hji
      exact hn ((hb (not_lt.mp hji)).trans_lt hi)
    have hc := Finset.card_le_card hs
    rw [Fin.card_Iio] at hc
    exact absurd h (not_lt.mpr hc)

/-- The left edge of bin `k`, with the first bin open below. -/
def loEdge (b : Fin 65 → EReal) (k : Fin 64) : EReal := if k.val = 0 then ⊥ else b k.castSucc

/-- The right edge of bin `k`, with the last bin open above. -/
def hiEdge (b : Fin 65 → EReal) (k : Fin 64) : EReal := if k.val = 63 then ⊤ else b k.succ

/-- The two comparisons with the edges pick exactly the target's bin. -/
theorem in_bin_iff {b : Fin 65 → EReal} (hb : Monotone b) {y : EReal} (hy : y ≠ ⊥) (k : Fin 64) :
    (loEdge b k < y ∧ y ≤ hiEdge b k) ↔ k = bin b y := by
  have h1 : loEdge b k < y ↔ (k.val = 0 ∨ k.val < belowCount b y) := by
    unfold loEdge
    split
    · exact ⟨fun _ => Or.inl ‹_›, fun _ => bot_lt_iff_ne_bot.mpr hy⟩
    · rw [border_lt_iff hb]
      simp [*]
  have h2 : y ≤ hiEdge b k ↔ (k.val = 63 ∨ ¬ k.val + 1 < belowCount b y) := by
    unfold hiEdge
    split
    · exact ⟨fun _ => Or.inl ‹_›, fun _ => le_top⟩
    · rw [← not_lt, border_lt_iff hb]
      simp [*]
  rw [h1, h2, Fin.ext_iff]
  have := k.isLt
  have := belowCount_le b y
  show _ ↔ k.val = min 63 (belowCount b y - 1)
  omega

/-- Width of bin `k`. -/
def width (b : Fin 65 → EReal) (k : Fin 64) : EReal := b k.succ - b k.castSucc

/-- The masked, width-adjusted logit of bin `k`. -/
def masked (x : Fin 64 → EReal) (y : EReal) (b : Fin 65 → EReal) (k : Fin 64) : EReal :=
  if loEdge b k < y ∧ y ≤ hiEdge b k then x k - Ideal.log (width b k) else 0

/-- The kernel's spelling: the masked sum, plus the sum of what is left after taking the coarse part
off, less the log of the sum of exponentials. -/
def kernelRow (x : Fin 64 → EReal) (y : EReal) (b : Fin 65 → EReal) : EReal :=
  (∑ k, masked x y b k) + (∑ k, (masked x y b k - masked x y b k)) - Ideal.log (∑ k, Ideal.exp (x k))

/-- The reference's spelling: shift by the largest logit, take the log of the sum of exponentials off,
then the log of the bin's width, all at the target's bin. -/
def refRow (x : Fin 64 → EReal) (y : EReal) (b : Fin 65 → EReal) : EReal :=
  x (bin b y) - Finset.univ.sup x - Ideal.log (∑ k, Ideal.exp (x k - Finset.univ.sup x))
    - Ideal.log (width b (bin b y))

/-- With the mask naming one bin, the kernel's sums keep one term each. -/
theorem kernelRow_eq_bin {b : Fin 65 → EReal} (hb : Monotone b) {y : EReal} (hy : y ≠ ⊥)
    (x : Fin 64 → EReal) :
    kernelRow x y b = (x (bin b y) - Ideal.log (width b (bin b y)))
      + ((x (bin b y) - Ideal.log (width b (bin b y))) - (x (bin b y) - Ideal.log (width b (bin b y))))
      - Ideal.log (∑ k, Ideal.exp (x k)) := by
  have hm : ∀ k, masked x y b k = if k = bin b y then x k - Ideal.log (width b k) else 0 := fun k => by
    unfold masked
    simp only [in_bin_iff hb hy]
  have hs : ∀ k, masked x y b k - masked x y b k
      = if k = bin b y then (x k - Ideal.log (width b k)) - (x k - Ideal.log (width b k)) else 0 := fun k => by
    rw [hm]
    split <;> simp
  unfold kernelRow
  rw [Finset.sum_congr rfl fun k _ => hm k, Finset.sum_congr rfl fun k _ => hs k]
  simp

/-- The log of a positive width is plus infinity or a real number. -/
theorem log_pos_width {w : EReal} (h : 0 < w) : Ideal.log w = ⊤ ∨ ∃ l : ℝ, Ideal.log w = (l : EReal) := by
  induction w using EReal.rec with
  | bot => exact absurd h (by simp)
  | top => exact Or.inl rfl
  | coe r =>
    refine Or.inr ⟨Real.log r, ?_⟩
    have hr : ¬ r ≤ 0 := not_le.mpr (EReal.coe_pos.mp h)
    show (if r ≤ 0 then (⊥ : EReal) else (Real.log r : EReal)) = _
    rw [if_neg hr]

/-- The exponential at the three kinds of extended real. -/
theorem exp_bot : Ideal.exp ⊥ = 0 := rfl
theorem exp_top : Ideal.exp ⊤ = ⊤ := rfl
theorem exp_coe (r : ℝ) : Ideal.exp (r : EReal) = (Real.exp r : EReal) := rfl

/-- The exponential of anything below plus infinity is a real number. -/
theorem exp_eq_coe {v : EReal} (h : v ≠ ⊤) : Ideal.exp v = ((Ideal.exp v).toReal : EReal) := by
  induction v using EReal.rec with
  | bot => simp [exp_bot, exp_top, exp_coe]
  | top => exact absurd rfl h
  | coe r => simp [exp_bot, exp_top, exp_coe]

/-- The exponential as a real number is not negative. -/
theorem exp_toReal_nonneg (v : EReal) : 0 ≤ (Ideal.exp v).toReal := by
  induction v using EReal.rec with
  | bot => simp [exp_bot, exp_top, exp_coe]
  | top => simp [exp_bot, exp_top, exp_coe]
  | coe r => simp [exp_bot, exp_top, exp_coe, Real.exp_nonneg]

/-- The exponential is not negative. -/
theorem exp_nonneg (v : EReal) : 0 ≤ Ideal.exp v := by
  induction v using EReal.rec with
  | bot => simp [exp_bot, exp_top, exp_coe]
  | top => simp [exp_bot, exp_top, exp_coe]
  | coe r => simp [exp_bot, exp_top, exp_coe, Real.exp_nonneg]

/-- Shifting the argument by a real number scales the exponential. -/
theorem exp_shift {v : EReal} (h : v ≠ ⊤) (m : ℝ) :
    Ideal.exp (v - (m : EReal)) = (((Ideal.exp v).toReal * Real.exp (-m) : ℝ) : EReal) := by
  induction v using EReal.rec with
  | bot => simp [exp_bot, exp_top, exp_coe]
  | top => exact absurd rfl h
  | coe r =>
    rw [← EReal.coe_sub]
    simp only [exp_coe, EReal.toReal_coe]
    rw [← Real.exp_add, sub_eq_add_neg]

/-- A sum of real numbers, taken in the extended reals. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The log of a positive real number. -/
theorem log_coe_pos {r : ℝ} (h : 0 < r) : Ideal.log (r : EReal) = (Real.log r : EReal) := by
  show (if r ≤ 0 then (⊥ : EReal) else (Real.log r : EReal)) = _
  rw [if_neg (not_le.mpr h)]

/-- A sum with a term that is plus infinity, all terms nonnegative, is plus infinity. -/
theorem sum_exp_top {x : Fin 64 → EReal} {j : Fin 64} (h : x j = ⊤) : (∑ k, Ideal.exp (x k)) = ⊤ := by
  refine top_le_iff.mp ?_
  have : Ideal.exp (x j) = ⊤ := by rw [h]; rfl
  rw [← this]
  exact Finset.single_le_sum (f := fun k => Ideal.exp (x k)) (fun k _ => exp_nonneg _) (Finset.mem_univ j)

/-- The log-sum-exp law at one bin, with every corner of the extended reals. `L` is the log of the bin's
width. -/
theorem logSumExp_at (x : Fin 64 → EReal) (t : Fin 64) {L : EReal} (hL : L = ⊤ ∨ ∃ l : ℝ, L = (l : EReal)) :
    (x t - L) + ((x t - L) - (x t - L)) - Ideal.log (∑ k, Ideal.exp (x k))
      = x t - Finset.univ.sup x - Ideal.log (∑ k, Ideal.exp (x k - Finset.univ.sup x)) - L := by
  rcases hL with rfl | ⟨l, rfl⟩
  · simp [sub_eq_add_neg]
  by_cases hbot : x t = ⊥
  · rw [hbot]
    simp [sub_eq_add_neg]
  by_cases htop : ∃ j, x j = ⊤
  · obtain ⟨j, hj⟩ := htop
    have hM : Finset.univ.sup x = ⊤ := top_le_iff.mp (hj ▸ Finset.le_sup (f := x) (Finset.mem_univ j))
    rw [sum_exp_top hj, hM]
    have : Ideal.log ⊤ = ⊤ := rfl
    rw [this]
    simp [sub_eq_add_neg]
  have hne : ∀ k, x k ≠ ⊤ := fun k hk => htop ⟨k, hk⟩
  have hMtop : Finset.univ.sup x ≠ ⊤ := by
    refine ne_of_lt ((Finset.sup_lt_iff (by simp)).mpr fun k _ => lt_top_iff_ne_top.mpr (hne k))
  have hMbot : Finset.univ.sup x ≠ ⊥ := fun h =>
    hbot (le_bot_iff.mp (h ▸ Finset.le_sup (f := x) (Finset.mem_univ t)))
  obtain ⟨m, hm⟩ : ∃ m : ℝ, Finset.univ.sup x = (m : EReal) := ⟨_, (EReal.coe_toReal hMtop hMbot).symm⟩
  obtain ⟨a, ha⟩ : ∃ a : ℝ, x t = (a : EReal) := ⟨_, (EReal.coe_toReal (hne t) hbot).symm⟩
  set s : ℝ := ∑ k, (Ideal.exp (x k)).toReal with hs
  have hspos : 0 < s := by
    refine lt_of_lt_of_le (Real.exp_pos a) ?_
    have h1 : (Ideal.exp (x t)).toReal = Real.exp a := by rw [ha]; simp [exp_bot, exp_top, exp_coe]
    rw [← h1]
    exact Finset.single_le_sum (f := fun k => (Ideal.exp (x k)).toReal)
      (fun k _ => exp_toReal_nonneg _) (Finset.mem_univ t)
  have hS : (∑ k, Ideal.exp (x k)) = (s : EReal) := by
    rw [hs, coe_sum]
    exact Finset.sum_congr rfl fun k _ => exp_eq_coe (hne k)
  have hS' : (∑ k, Ideal.exp (x k - (m : EReal))) = ((s * Real.exp (-m) : ℝ) : EReal) := by
    rw [hs, Finset.sum_mul, coe_sum]
    exact Finset.sum_congr rfl fun k _ => exp_shift (hne k) m
  rw [hm, hS, hS', ha, log_coe_pos hspos, log_coe_pos (mul_pos hspos (Real.exp_pos _)),
    Real.log_mul hspos.ne' (Real.exp_pos _).ne', Real.log_exp]
  norm_cast
  ring

/-- The bin a target falls in has positive width: an inner bin because the target lies between its
edges, the two outer bins by assumption. -/
theorem width_bin_pos {b : Fin 65 → EReal} (hb : Monotone b) (h0 : b 0 < b 1) (h63 : b 63 < b 64) (y : EReal) :
    0 < width b (bin b y) := by
  refine EReal.sub_pos.mpr ?_
  have hv : (bin b y).val = min 63 (belowCount b y - 1) := rfl
  generalize bin b y = k at hv ⊢
  by_cases hk0 : k = 0
  · subst hk0
    exact h0
  by_cases hk63 : k = 63
  · subst hk63
    exact h63
  have e0 : k.val ≠ 0 := fun e => hk0 (Fin.ext e)
  have e63 : k.val ≠ 63 := fun e => hk63 (Fin.ext e)
  have hlo : b k.castSucc < y := (border_lt_iff hb y _).mpr (by simp only [Fin.val_castSucc]; omega)
  have hhi : ¬ b k.succ < y := fun h => by
    have := (border_lt_iff hb y _).mp h
    simp only [Fin.val_succ] at this
    omega
  exact hlo.trans_le (not_lt.mp hhi)

/-- The two spellings of a token's log probability agree. -/
theorem kernelRow_eq_refRow {b : Fin 65 → EReal} (hb : Monotone b) (h0 : b 0 < b 1) (h63 : b 63 < b 64)
    {y : EReal} (hy : y ≠ ⊥) (x : Fin 64 → EReal) : kernelRow x y b = refRow x y b := by
  rw [kernelRow_eq_bin hb hy]
  exact logSumExp_at x (bin b y) (log_pos_width (width_bin_pos hb h0 h63 y))

end Cert.BarDist
end
-- ==== Proof.Words.lean ====
module

public import Idealize.ShloMosaic.PureOps.Ideal

@[expose] public section
/-! The three float constants the programs name, as extended reals, and the loss's last two steps. -/
noncomputable section
namespace Cert.BarDist
open Idealize.ShloMosaic

/-- The word of minus infinity. -/
theorem negInf_word : Ideal.ofBits .f32 0xFF800000#32 = ⊥ := by simp [Ideal.ofBits, Ideal.ieee]

/-- The word of plus infinity. -/
theorem posInf_word : Ideal.ofBits .f32 0x7F800000#32 = ⊤ := by simp [Ideal.ofBits, Ideal.ieee]

/-- The word of the number of tokens. -/
theorem tokens_word : Ideal.ofBits .f32 0x47000000#32 = ((32768 : ℝ) : EReal) := by
  simp [Ideal.ofBits, Ideal.ieee, -EReal.coe_mul]
  norm_num

/-- Dividing the negated total is negating the divided total. -/
theorem neg_mean (a : EReal) :
    Ideal.div (0 - a) (Ideal.ofBits .f32 0x47000000#32) = - Ideal.div a (Ideal.ofBits .f32 0x47000000#32) := by
  have h : ((32768 : ℝ) : EReal) ≠ 0 := by
    intro h
    exact absurd (EReal.coe_eq_zero.mp h) (by norm_num)
  rw [tokens_word]
  unfold Ideal.div
  rw [if_neg h, if_neg h, zero_sub, EReal.neg_mul]

end Cert.BarDist
end
-- ==== Proof.Body.lean ====
module

public import proofs.«01_k».proof.Proof.Gen.KernelIdeal.Skeleton
public import proofs.«01_k».proof.Proof.Row
public import proofs.«01_k».proof.Proof.Words
public import Idealize.ShloMosaic.Lib.Pointwise

@[expose] public section
set_option maxRecDepth 16384
/-! The kernel body's arithmetic, read at one entry over the extended reals. -/
noncomputable section
namespace Cert.BarDist
open Cert.KernelIdeal Cert.KernelIdeal.Gen Idealize.ShloMosaic Idealize.ShloMosaic.TcCoe Idealize.SL.Sem

/-- Whether lane `k` of the 128 belongs to half `h`, as the body computes it in integers. -/
def halfWord (k : Fin 128) (h : Fin 2) : BitVec 32 :=
  BitVec.setWidth 32
    (IntOp.cmpi .eq
      (Scalar.select
        (IntOp.andi
          (IntOp.cmpi .ne
            (IntOp.subi (BitVec.setWidth 32 (IntOp.cmpi .sgt (BitVec.ofNat 32 k.val) 0#32))
              (BitVec.setWidth 32 (IntOp.cmpi .slt (BitVec.ofNat 32 k.val) 0#32)))
            (Scalar.subi (Scalar.extui (Scalar.cmpi .sgt 64#32 0#32)) (Scalar.extui (Scalar.cmpi .slt 64#32 0#32))))
          (IntOp.cmpi .ne (IntOp.remsi ArithUnit.vector (BitVec.ofNat 32 k.val) 64#32) 0#32))
        (IntOp.subi (IntOp.divsi ArithUnit.vector (BitVec.ofNat 32 k.val) 64#32) 1#32)
        (IntOp.divsi ArithUnit.vector (BitVec.ofNat 32 k.val) 64#32))
      (BitVec.ofNat 32 h.val))

/-- It is one exactly on the lanes of the half. -/
theorem halfWord_eq : ∀ (k : Fin 128) (h : Fin 2), halfWord k h = if k.val / 64 = h.val then 1#32 else 0#32 := by
  decide +kernel

/-- The selector's entry as a number: one on the half's own lanes, zero on the other half's. -/
theorem halfWord_float (k : Fin 128) (h : Fin 2) :
    (FloatOps.sitofp .f32 (halfWord k h) : Ideal .f32) = if k.val / 64 = h.val then 1 else 0 := by
  rw [halfWord_eq]
  split <;> simp [FloatOps.sitofp]

/-- Lane `k` of half `h`. -/
def laneOf (h : Fin 2) (k : Fin 64) : Fin 128 := ⟨h.val * 64 + k.val, by omega⟩

/-- A product with the selector keeps one half's lanes. -/
theorem select_half (h : Fin 2) (f : Fin 128 → EReal) :
    (∑ k : Fin 128, (FloatOps.sitofp .f32 (halfWord k h) : Ideal .f32) * f k) = ∑ k : Fin 64, f (laneOf h k) := by
  have hs : ∀ k : Fin 128, ((FloatOps.sitofp .f32 (halfWord k h) : Ideal .f32) * f k : EReal)
      = if k.val / 64 = h.val then f k else 0 := fun k => by
    rw [halfWord_float]
    split <;> simp
  rw [Finset.sum_congr rfl fun k _ => hs k, ← Finset.sum_filter]
  symm
  refine Finset.sum_bij' (fun k _ => laneOf h k) (fun k _ => ⟨k.val % 64, Nat.mod_lt _ (by decide)⟩)
    (fun k _ => ?_) (fun _ _ => Finset.mem_univ _) (fun k _ => ?_) (fun k hk => ?_) (fun _ _ => rfl)
  · simp only [Finset.mem_filter, Finset.mem_univ, true_and, laneOf]
    omega
  · apply Fin.ext
    simp only [laneOf]
    omega
  · simp only [Finset.mem_filter, Finset.mem_univ, true_and] at hk
    apply Fin.ext
    simp only [laneOf]
    omega

/-- The body's log probability from the mask, the exponentials and the adjusted logits. -/
theorem lp_at (v36 : IVec S4096x128 1) (v37 v39 : FVec Ideal S4096x128 .f32) (c0 : Ideal .f32) (h : Fin 2) (r : Fin 4096) :
    k0_pay9 (F := Ideal) v36 v37 v39 c0 (ix2 h r)
      = (∑ k, Scalar.select (v36 (ix2 r (laneOf h k))) (v39 (ix2 r (laneOf h k))) c0)
        + (∑ k, (Scalar.select (v36 (ix2 r (laneOf h k))) (v39 (ix2 r (laneOf h k))) c0
            - Scalar.select (v36 (ix2 r (laneOf h k))) (v39 (ix2 r (laneOf h k))) c0))
        - Ideal.log (∑ k, v37 (ix2 r (laneOf h k))) := by
  rw [← select_half h fun k => Scalar.select (v36 (ix2 r k)) (v39 (ix2 r k)) c0,
    ← select_half h fun k => Scalar.select (v36 (ix2 r k)) (v39 (ix2 r k)) c0 - Scalar.select (v36 (ix2 r k)) (v39 (ix2 r k)) c0,
    ← select_half h fun k => v37 (ix2 r k)]
  unfold halfWord
  pointwise [k0_pay9]

/-- What half `h` of the block reads: the logits' half, the targets' half, and the left and right borders. -/
def halfRow (v0 v2 : Vec Ideal S1x4096x64 .f32) (h : Fin 2) (r : Fin 4096) : Fin 64 → EReal := fun k =>
  if h.val = 0 then v0 (ix3 0 r k) else v2 (ix3 0 r k)
/-- The half's target. -/
def halfTarget (v23 v27 : Vec Ideal S4096x1 .f32) (h : Fin 2) (r : Fin 4096) : EReal :=
  if h.val = 0 then v23 (ix2 r 0) else v27 (ix2 r 0)

/-- The first half has the lanes below 64. -/
theorem lane_lt (k : Fin 64) : (laneOf 0 k).val < 64 := by simp only [laneOf]; omega

/-- The body's exponentials, at a half's lane. -/
theorem exp_at (v0 v2 : Vec Ideal S1x4096x64 .f32) (h : Fin 2) (r : Fin 4096) (k : Fin 64) :
    k0_pay7 (F := Ideal) v0 v2 (ix2 r (laneOf h k)) = Ideal.exp (halfRow v0 v2 h r k) := by
  pointwise [k0_pay7, k0_pay3]
  fin_cases h <;> simp [laneOf, halfRow]

/-- The body's width-adjusted logits, at a half's lane. -/
theorem adjusted_at (v0 v2 : Vec Ideal S1x4096x64 .f32) (v5 v7 : Vec Ideal S1x64 .f32) (h : Fin 2) (r : Fin 4096) (k : Fin 64) :
    k0_pay8 (F := Ideal) v0 v2 v5 v7 (ix2 r (laneOf h k))
      = halfRow v0 v2 h r k - Ideal.log (v7 (ix2 0 k) - v5 (ix2 0 k)) := by
  pointwise [k0_pay8, k0_pay3, k0_pay4, k0_pay5]
  fin_cases h <;> simp [laneOf, halfRow]

/-- The test for the first bin. -/
theorem first_word : ∀ k : Fin 64, IntOp.cmpi .eq (BitVec.ofNat 32 k.val) 0#32 = if k.val = 0 then 1#1 else 0#1 := by
  decide +kernel
/-- The test for the last bin. -/
theorem last_word : ∀ k : Fin 64, IntOp.cmpi .eq (BitVec.ofNat 32 k.val) 63#32 = if k.val = 63 then 1#1 else 0#1 := by
  decide +kernel

/-- Selecting at the first bin. -/
theorem select_first (k : Fin 64) (a b : EReal) :
    Scalar.select (IntOp.cmpi .eq (BitVec.ofNat 32 k.val) 0#32) a b = if k.val = 0 then a else b := by
  rw [first_word]
  split <;> rfl
/-- Selecting at the last bin. -/
theorem select_last (k : Fin 64) (a b : EReal) :
    Scalar.select (IntOp.cmpi .eq (BitVec.ofNat 32 k.val) 63#32) a b = if k.val = 63 then a else b := by
  rw [last_word]
  split <;> rfl

/-- Two truth bits together. -/
theorem mask_bits (p q : Prop) [Decidable p] [Decidable q] :
    IntOp.andi (BitVec.ofBool (decide p)) (BitVec.ofBool (decide q)) = if p ∧ q then 1#1 else 0#1 := by
  by_cases hp : p <;> by_cases hq : q <;> simp [hp, hq] <;> decide

/-- The body's mask, at a half's lane. -/
theorem mask_lane (v5 v7 : Vec Ideal S1x64 .f32) (v23 v27 : Vec Ideal S4096x1 .f32) (h : Fin 2) (r : Fin 4096) (k : Fin 64) :
    k0_pay6 (F := Ideal) v5 v7 v23 v27 (ix2 r (laneOf h k))
      = if (if k.val = 0 then ⊥ else v5 (ix2 0 k)) < halfTarget v23 v27 h r
          ∧ halfTarget v23 v27 h r ≤ (if k.val = 63 then ⊤ else v7 (ix2 0 k)) then 1#1 else 0#1 := by
  rw [← mask_bits, ← select_first, ← select_last, ← negInf_word, ← posInf_word]
  pointwise [k0_pay6, k0_pay4, k0_pay5]
  fin_cases h <;> simp [laneOf, halfTarget]

/-- The body's log probability at an entry is the kernel's row formula at that half's row. -/
theorem row_at (v0 v2 : Vec Ideal S1x4096x64 .f32) (v5 v7 : Vec Ideal S1x64 .f32) (v23 v27 : Vec Ideal S4096x1 .f32)
    (b : Fin 65 → EReal) (h5 : ∀ k : Fin 64, v5 (ix2 0 k) = b k.castSucc) (h7 : ∀ k : Fin 64, v7 (ix2 0 k) = b k.succ)
    (h : Fin 2) (r : Fin 4096) :
    k0_pay9 (F := Ideal) (k0_pay6 v5 v7 v23 v27) (k0_pay7 v0 v2) (k0_pay8 v0 v2 v5 v7) (FloatOps.ofBits .f32 0x00000000#32) (ix2 h r)
      = kernelRow (halfRow v0 v2 h r) (halfTarget v23 v27 h r) b := by
  rw [lp_at]
  have hm : ∀ k : Fin 64, Scalar.select (k0_pay6 (F := Ideal) v5 v7 v23 v27 (ix2 r (laneOf h k)))
      (k0_pay8 (F := Ideal) v0 v2 v5 v7 (ix2 r (laneOf h k))) (FloatOps.ofBits .f32 0x00000000#32 : Ideal .f32)
      = masked (halfRow v0 v2 h r) (halfTarget v23 v27 h r) b k := fun k => by
    rw [mask_lane, adjusted_at, h5, h7]
    unfold masked loEdge hiEdge width
    by_cases hc : (if k.val = 0 then ⊥ else b k.castSucc) < halfTarget v23 v27 h r
        ∧ halfTarget v23 v27 h r ≤ (if k.val = 63 then ⊤ else b k.succ)
    · rw [if_pos hc, if_pos hc]
      rfl
    · rw [if_neg hc, if_neg hc]
      simp [Scalar.select]
  unfold kernelRow
  simp only [hm, exp_at]

/-- The accumulator's step: what was carried plus the block's total. -/
theorem acc_at (v : FVec Ideal S2x4096 .f32) (a : Vec Ideal S1x1 .f32) (p q : Fin 1) :
    k0_pay1 (F := Ideal) v a (ix2 p q) = a (ix2 p q) + ∑ h : Fin 2, ∑ r : Fin 4096, v (ix2 h r) := by
  pointwise [k0_pay1]

/-- The loss from the accumulator: the negated total over the number of tokens. -/
theorem loss_at (a : Vec Ideal S1x1 .f32) (p q : Fin 1) :
    k0_pay2 (F := Ideal) a (ix2 p q) = Ideal.div (0 - a (ix2 p q)) (Ideal.ofBits .f32 0x47000000#32) := by
  pointwise [k0_pay2]

/-- The accumulator starts at zero. -/
theorem zero_at (p q : Fin 1) : k0_pay10 (F := Ideal) (ix2 p q) = 0 := by
  pointwise [k0_pay10]

end Cert.BarDist
end
-- ==== Proof.Blocks.lean ====
module

public import proofs.«01_k».proof.Proof.Gen.KernelIdeal.Frame
public import proofs.«01_k».proof.Proof.Body
public import Idealize.ShloMosaic.Lib.Pipeline.ValueKit
public import Idealize.ShloMosaic.Lib.Claim

@[expose] public section
set_option maxRecDepth 16384
/-! What the kernel's body reads at one grid point, as entries of the arguments: point `t` takes the
`t`-th quarter of both halves of the tokens. -/
noncomputable section
namespace Cert.BarDist
open Cert.KernelIdeal Cert.KernelIdeal.Gen Idealize.ShloMosaic Idealize.ShloMosaic.TcCoe Idealize.SL.Sem

variable (m : (ℓ : Loc nD τ sig) → Buf (Elt Ideal) ℓ)

/-- The index maps of the windows, in the point's number. -/
theorem idx : ∀ t : Fin cfg0.N, win0_0.index t = ![0, t.val, 0] ∧ win0_1.index t = ![t.val, 0]
    ∧ win0_2.index t = ![t.val + 4, 0] ∧ win0_3.index t = ![0, 0] ∧ win0_4.index t = ![0, t.val] ∧ win0_5.index t = ![0, 0]
    ∧ t.val < 4 :=
  (by decide +kernel : ∀ t : Fin grid0.N, _)

/-- Token number of row `r` of half `h` at point `t`. -/
def tokenAt (t : ℕ) (ht : t < 4) (h : Fin 2) (r : Fin 4096) : Fin 32768 := ⟨h.val * 16384 + t * 4096 + r.val, by omega⟩

/-- The logits at core `c`. -/
def arg0 (c : Dev nD) : FVec Ideal S32768x64 .f32 := m ((c.tc : Thread nD τ).loc main_arg0)
/-- The targets at core `c`. -/
def arg1 (c : Dev nD) : FVec Ideal S32768 .f32 := m ((c.tc : Thread nD τ).loc main_arg1)
/-- The borders at core `c`. -/
def arg2 (c : Dev nD) : FVec Ideal S65 .f32 := m ((c.tc : Thread nD τ).loc main_arg2)

/-- The logits as the kernel takes them: the two halves of the tokens stacked. -/
theorem entry0 (c : Dev nD) (h : Fin 2) (i : Fin 16384) (k : Fin 64) :
    (V m c main_v0 : FVec Ideal S2x16384x64 .f32) (ix3 h i k) = arg0 m c (ix2 ⟨h.val * 16384 + i.val, by omega⟩ k) := by
  have e : (V m c main_v0 : FVec Ideal S2x16384x64 .f32) = shapeCast S2x16384x64 (arg0 m c) shapeCasts_S32768x64_S2x16384x64 := by
    unfold V V0
    rw [show [hostOps0 (F := Ideal)].flatten = hostOps0 from List.append_nil _]
    after_results
    rfl
  rw [e]
  pointwise

/-- The targets as a column. -/
theorem entry1 (c : Dev nD) (i : Fin 32768) :
    (V m c main_v1 : FVec Ideal S32768x1 .f32) (ix2 i 0) = arg1 m c (ix1 i) := by
  have e : (V m c main_v1 : FVec Ideal S32768x1 .f32) = shapeCast S32768x1 (arg1 m c) shapeCasts_S32768_S32768x1 := by
    unfold V V0
    rw [show [hostOps0 (F := Ideal)].flatten = hostOps0 from List.append_nil _]
    after_results
    rfl
  rw [e]
  pointwise

/-- The borders as a row. -/
theorem entry2 (c : Dev nD) (j : Fin 65) :
    (V m c main_v2 : FVec Ideal S1x65 .f32) (ix2 0 j) = arg2 m c (ix1 j) := by
  have e : (V m c main_v2 : FVec Ideal S1x65 .f32) = shapeCast S1x65 (arg2 m c) shapeCasts_S65_S1x65 := by
    unfold V V0
    rw [show [hostOps0 (F := Ideal)].flatten = hostOps0 from List.append_nil _]
    after_results
    rfl
  rw [e]
  pointwise

/-- The block of borders: the left edges. -/
theorem lo_at (A : FVec Ideal S1x65 .f32) (t : Fin cfg0.N) (k : Fin 64) :
    (View.ld (View.read (Elt Ideal) ((cfg0.win 3).blk t).view A) (Rect.unit ![0, 0] ![1, 64] inb_S1x65_S1x64_0_0) : FVec Ideal S1x64 .f32) (ix2 0 k)
      = A (ix2 0 k.castSucc) := by
  refine congrArg A ?_
  blk_ext [idx t]
  · change 0 + 1 * k.val = k.val
    omega

/-- The block of borders: the right edges. -/
theorem hi_at (A : FVec Ideal S1x65 .f32) (t : Fin cfg0.N) (k : Fin 64) :
    (View.ld (View.read (Elt Ideal) ((cfg0.win 3).blk t).view A) (Rect.unit ![0, 1] ![1, 64] inb_S1x65_S1x64_0_1) : FVec Ideal S1x64 .f32) (ix2 0 k)
      = A (ix2 0 k.succ) := by
  refine congrArg A ?_
  blk_ext [idx t]
  · change 1 + 1 * k.val = k.val + 1
    omega

/-- The block of logits: the rows of the first half. -/
theorem row0_at (A : FVec Ideal S2x16384x64 .f32) (t : Fin cfg0.N) (r : Fin 4096) (k : Fin 64) :
    (View.ld (View.read (Elt Ideal) ((cfg0.win 0).blk t).view A) (Rect.unit ![0, 0, 0] ![1, 4096, 64] inb_S2x4096x64_S1x4096x64_0_0_0) : FVec Ideal S1x4096x64 .f32) (ix3 0 r k)
      = A (ix3 0 ⟨t.val * 4096 + r.val, by have := (idx t).2.2.2.2.2.2; omega⟩ k) := by
  refine congrArg A ?_
  blk_ext [idx t]
  · rfl
  · change t.val * 4096 + (0 + 1 * r.val) = t.val * 4096 + r.val
    omega
  · change 0 + 1 * k.val = k.val
    omega

/-- The block of logits: the rows of the second half. -/
theorem row1_at (A : FVec Ideal S2x16384x64 .f32) (t : Fin cfg0.N) (r : Fin 4096) (k : Fin 64) :
    (View.ld (View.read (Elt Ideal) ((cfg0.win 0).blk t).view A) (Rect.unit ![1, 0, 0] ![1, 4096, 64] inb_S2x4096x64_S1x4096x64_1_0_0) : FVec Ideal S1x4096x64 .f32) (ix3 0 r k)
      = A (ix3 1 ⟨t.val * 4096 + r.val, by have := (idx t).2.2.2.2.2.2; omega⟩ k) := by
  refine congrArg A ?_
  blk_ext [idx t]
  · rfl
  · change t.val * 4096 + (0 + 1 * r.val) = t.val * 4096 + r.val
    omega
  · change 0 + 1 * k.val = k.val
    omega

/-- The targets of the first half's rows. -/
theorem target0_at (A : FVec Ideal S32768x1 .f32) (t : Fin cfg0.N) (r : Fin 4096) :
    (View.read (Elt Ideal) ((cfg0.win 1).blk t).view A : FVec Ideal S4096x1 .f32) (ix2 r 0)
      = A (ix2 ⟨t.val * 4096 + r.val, by have := (idx t).2.2.2.2.2.2; omega⟩ 0) := by
  refine congrArg A ?_
  blk_ext [idx t]

/-- The targets of the second half's rows. -/
theorem target1_at (A : FVec Ideal S32768x1 .f32) (t : Fin cfg0.N) (r : Fin 4096) :
    (View.read (Elt Ideal) ((cfg0.win 2).blk t).view A : FVec Ideal S4096x1 .f32) (ix2 r 0)
      = A (ix2 ⟨(t.val + 4) * 4096 + r.val, by have := (idx t).2.2.2.2.2.2; omega⟩ 0) := by
  refine congrArg A ?_
  blk_ext [idx t]

/-- What the body computes at point `t`: the log-densities of the tokens of both halves. -/
def blockLp (c : Dev nD) (t : Fin cfg0.N) : FVec Ideal S2x4096 .f32 :=
  k0_pay9
    (k0_pay6 (View.ld (iblk m c 3 t) (Rect.unit ![0, 0] ![1, 64] inb_S1x65_S1x64_0_0))
      (View.ld (iblk m c 3 t) (Rect.unit ![0, 1] ![1, 64] inb_S1x65_S1x64_0_1)) (iblk m c 1 t) (iblk m c 2 t))
    (k0_pay7 (View.ld (iblk m c 0 t) (Rect.unit ![0, 0, 0] ![1, 4096, 64] inb_S2x4096x64_S1x4096x64_0_0_0))
      (View.ld (iblk m c 0 t) (Rect.unit ![1, 0, 0] ![1, 4096, 64] inb_S2x4096x64_S1x4096x64_1_0_0)))
    (k0_pay8 (View.ld (iblk m c 0 t) (Rect.unit ![0, 0, 0] ![1, 4096, 64] inb_S2x4096x64_S1x4096x64_0_0_0))
      (View.ld (iblk m c 0 t) (Rect.unit ![1, 0, 0] ![1, 4096, 64] inb_S2x4096x64_S1x4096x64_1_0_0))
      (View.ld (iblk m c 3 t) (Rect.unit ![0, 0] ![1, 64] inb_S1x65_S1x64_0_0))
      (View.ld (iblk m c 3 t) (Rect.unit ![0, 1] ![1, 64] inb_S1x65_S1x64_0_1)))
    (FloatOps.ofBits .f32 0x00000000#32)

/-- The kernel's log-density of one token. -/
def tokenLp (c : Dev nD) (i : Fin 32768) : EReal :=
  kernelRow (fun k => arg0 m c (ix2 i k)) (arg1 m c (ix1 i)) (fun j => arg2 m c (ix1 j))

/-- At each coordinate the body's log-density is that of the token there. -/
theorem blockLp_at (c : Dev nD) (t : Fin cfg0.N) (ht : t.val < 4) (h : Fin 2) (r : Fin 4096) :
    blockLp m c t (ix2 h r) = tokenLp m c (tokenAt t.val ht h r) := by
  unfold blockLp tokenLp
  refine (row_at _ _ _ _ _ _ (fun j => arg2 m c (ix1 j)) (fun k => (lo_at (V m c main_v2) t k).trans (entry2 m c _))
    (fun k => (hi_at (V m c main_v2) t k).trans (entry2 m c _)) h r).trans ?_
  congr 1
  · funext k
    unfold halfRow
    match h with
    | 0 =>
      rw [if_pos (show ((0 : Fin 2) : ℕ) = 0 from rfl)]
      exact ((row0_at (V m c main_v0) t r k).trans (entry0 m c _ _ _)).trans (congrArg (fun i => arg0 m c (ix2 i k)) (Fin.ext (by simp [tokenAt])))
    | 1 =>
      rw [if_neg (by decide)]
      exact ((row1_at (V m c main_v0) t r k).trans (entry0 m c _ _ _)).trans (congrArg (fun i => arg0 m c (ix2 i k)) (Fin.ext (by simp [tokenAt]; omega)))
  · unfold halfTarget
    match h with
    | 0 =>
      rw [if_pos (show ((0 : Fin 2) : ℕ) = 0 from rfl)]
      exact ((target0_at (V m c main_v1) t r).trans (entry1 m c _)).trans (congrArg (fun i => arg1 m c (ix1 i)) (Fin.ext (by simp [tokenAt])))
    | 1 =>
      rw [if_neg (by decide)]
      exact ((target1_at (V m c main_v1) t r).trans (entry1 m c _)).trans (congrArg (fun i => arg1 m c (ix1 i)) (Fin.ext (by simp [tokenAt]; omega)))

end Cert.BarDist
end
-- ==== Proof.KernelValue.lean ====
module

public import proofs.«01_k».proof.Proof.Blocks

@[expose] public section
set_option maxRecDepth 16384
/-! The arrays the kernel's region leaves: the log-densities in two halves, and the loss. -/
noncomputable section
namespace Cert.BarDist
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The log-densities as the region writes them: half `h`, position `i` is token `h * 16384 + i`. -/
def lpArray (c : Dev nD) : FVec Ideal S2x16384 .f32 := fun y =>
  tokenLp m c ⟨(y 0).val * 16384 + (y 1).val, by have := (y 0).isLt; have := (y 1).isLt; simp [Shape.size] at *; omega⟩

/-- The block written at point `t` is its piece of the array. -/
theorem lp_piece (c : Dev nD) (t : Fin cfg0.N) (y : S2x4096.Idx) :
    blockLp m c t y = lpArray m c (((cfg0.win 4).blk t).view.emb y) := by
  obtain ⟨h, r, rfl⟩ : ∃ (h : Fin 2) (r : Fin 4096), y = ix2 h r := ⟨y 0, y 1, by funext a; fin_cases a <;> rfl⟩
  rw [blockLp_at m c t (idx t).2.2.2.2.2.2]
  refine congrArg (tokenLp m c) (Fin.ext ?_)
  blk_simp [idx t, tokenAt]
  exact Nat.add_assoc _ _ _

/-- The first output array after the last point. -/
theorem final4 (c : Dev nD) : (dats m 0 c).arrAt 4 (cfgs 0).N = lpArray m c := by
  refine (dats m 0 c).arrAt_eq_of_covers 4 _ (by decide +kernel) fun t hf y => ?_
  blk_simp
  rw [after0_4]
  by_cases h : t.val % 4 = 0
  · rw [outsAt0_A m c t h]
    frame_out
    exact lp_piece m c t y
  · rw [outsAt0_B m c t h]
    frame_out
    exact lp_piece m c t y

/-- The accumulator after point `n`. -/
def accAt (c : Dev nD) (n : ℕ) (hn : n < cfg0.N) : FVec Ideal S1x1 .f32 := (outsAt0 m c n hn).2.2

/-- The first point starts from zero. -/
theorem acc_first (c : Dev nD) (t : Fin cfg0.N) (h : t.val % 4 = 0) :
    accAt m c t.val t.isLt = k0_pay1 (blockLp m c t) (k0_pay10 (F := Ideal)) := by
  unfold accAt
  rw [outsAt0_A m c t h]
  frame_out
  rfl

/-- A later point adds to what the point before left. -/
theorem acc_next (c : Dev nD) (t : Fin cfg0.N) (h : ¬ t.val % 4 = 0) :
    accAt m c t.val t.isLt = k0_pay1 (blockLp m c t) (accAt m c (t.val - 1) (by have := t.isLt; omega)) := by
  unfold accAt
  rw [outsAt0_B m c t h]
  frame_out
  exact congrArg (k0_pay1 (blockLp m c t)) ((Memref.isWhole_whole cc0_scratch0).read_unread _)

/-- At the last point the loss block is the last payload of the accumulator. -/
theorem loss_last (c : Dev nD) (t : Fin cfg0.N) (h : ¬ t.val % 4 = 0) :
    (outsAt0 m c t.val t.isLt).2.1 = k0_pay2 (F := Ideal) (accAt m c t.val t.isLt) := by
  unfold accAt
  rw [outsAt0_B m c t h]
  frame_out

/-- The sum of a block, over the tokens it holds. -/
def blockSum (c : Dev nD) (t : Fin cfg0.N) : EReal :=
  ∑ h : Fin 2, ∑ r : Fin 4096, tokenLp m c (tokenAt t.val (idx t).2.2.2.2.2.2 h r)

/-- The accumulator's step, over the tokens of the block. -/
theorem acc_sum (c : Dev nD) (v : FVec Ideal S1x1 .f32) (t : Fin cfg0.N) (j : S1x1.Idx) :
    k0_pay1 (blockLp m c t) v j = v j + blockSum m c t := by
  obtain ⟨p, q, rfl⟩ : ∃ (p : Fin 1) (q : Fin 1), j = ix2 p q := ⟨j 0, j 1, by funext a; fin_cases a <;> rfl⟩
  rw [acc_at]
  refine congrArg (v (ix2 p q) + ·) ?_
  exact Finset.sum_congr rfl fun h _ => Finset.sum_congr rfl fun r _ => blockLp_at m c t _ h r

/-- The blocks of all points hold each token once. -/
theorem sum_blocks (c : Dev nD) : ∑ t : Fin cfg0.N, blockSum m c t = ∑ i : Fin 32768, tokenLp m c i := by
  unfold blockSum
  rw [Finset.sum_comm]
  have inner : ∀ h : Fin 2, ∑ t : Fin cfg0.N, ∑ r : Fin 4096, tokenLp m c (tokenAt t.val (idx t).2.2.2.2.2.2 h r)
      = ∑ i : Fin 16384, tokenLp m c ⟨h.val * 16384 + i.val, by omega⟩ := fun h =>
    Fin.sum_mul_add_congr fun t r hl => congrArg (tokenLp m c) (Fin.ext (Nat.add_assoc _ _ _))
  rw [Finset.sum_congr rfl fun h _ => inner h]
  exact Fin.sum_mul_add_congr fun h i hl => rfl

/-- The accumulator after the last point is the sum over all tokens. -/
theorem acc_last (c : Dev nD) (j : S1x1.Idx) :
    accAt m c t0_3.val t0_3.isLt j = ∑ i : Fin 32768, tokenLp m c i := by
  rw [Pipeline.eq_sum_fin_of_reset_step_apply_last (fun n h => accAt m c n h) 4 (fun _ => 0) (fun t _ => blockSum m c t)
    (fun t h j => by
      rw [acc_first m c t h, acc_sum]
      obtain ⟨p, q, rfl⟩ : ∃ (p : Fin 1) (q : Fin 1), j = ix2 p q := ⟨j 0, j 1, by funext a; fin_cases a <;> rfl⟩
      rw [zero_at])
    (fun t h j => by rw [acc_next m c t h, acc_sum])
    (le_of_eq N_0) t0_3 rfl j, zero_add, sum_blocks]

/-- The kernel's loss. -/
def lossValue (c : Dev nD) : EReal :=
  Ideal.div (0 - ∑ i : Fin 32768, tokenLp m c i) (Ideal.ofBits .f32 0x47000000#32)

/-- The loss as the region writes it. -/
def lossArray (c : Dev nD) : FVec Ideal S1x1 .f32 := fun _ => lossValue m c

/-- The second output array after the last point. -/
theorem final5 (c : Dev nD) : (dats m 0 c).arrAt 5 (cfgs 0).N = lossArray m c := by
  refine (dats m 0 c).arrAt_eq_of_after_last 5 t0_3 (by decide +kernel) _ fun j => ?_
  blk_simp
  rw [after0_5]
  refine (congrFun (loss_last m c t0_3 (by decide)) j).trans ?_
  obtain ⟨p, q, hj⟩ : ∃ (p : Fin 1) (q : Fin 1), (j : S1x1.Idx) = ix2 p q := ⟨j 0, j 1, by funext a; fin_cases a <;> rfl⟩
  rw [hj, loss_at, acc_last]
  rfl

end Cert.BarDist
end
-- ==== Proof.KernelTail.lean ====
module

public import proofs.«01_k».proof.Proof.KernelValue

@[expose] public section
set_option maxRecDepth 16384
/-! The whole kernel program: the region's two arrays are reshaped into the two results. -/
noncomputable section
namespace Cert.BarDist
open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first result: one log-density per token. -/
def lpResult (c : Dev nD) : FVec Ideal S32768 .f32 := fun y => tokenLp m c (y 0)

/-- The second result: the loss. -/
def lossResult (c : Dev nD) : FVec Ideal S_ .f32 := fun _ => lossValue m c

/-- What the region leaves in the array of window `w`. -/
theorem left_by_region (c : Dev nD) (w : Fin 6) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr_shared (cfgs 0).spec c (V0 m c) (fun w => (dats m 0 c).arrAt w (cfgs 0).N)
    (Pipeline.Dat.arrAt_sharedIn (dats m 0 c) sharedIn0 (V0 m c) (A_eq m c) _) w

/-- The two halves one after the other. -/
theorem flat_lp (c : Dev nD) : shapeCast S32768 (lpArray m c) shapeCasts_S2x16384_S32768 = lpResult m c := by
  funext y
  obtain ⟨i, rfl⟩ : ∃ i : Fin 32768, y = ix1 i := ⟨y 0, by funext a; fin_cases a; rfl⟩
  pointwise
  refine congrArg (tokenLp m c) (Fin.ext ?_)
  exact Nat.div_add_mod' i.val 16384

/-- The first result after the last reshape. -/
theorem tail4 (c : Dev nD) : Pipeline.afterTail₀ cfgs (dats m) 0 (V0 m) [hostOps1] c main_v4 = lpResult m c := by
  unfold Pipeline.afterTail₀
  rw [show [hostOps1 (F := Ideal)].flatten = hostOps1 from List.append_nil _]
  after_results
  have e := (left_by_region m c 4).trans (final4 m c)
  refine (congrArg (fun A : FVec Ideal S2x16384 .f32 => shapeCast S32768 A shapeCasts_S2x16384_S32768) e).trans ?_
  exact flat_lp m c

/-- The second result after the last reshape. -/
theorem tail5 (c : Dev nD) : Pipeline.afterTail₀ cfgs (dats m) 0 (V0 m) [hostOps1] c main_v5 = lossResult m c := by
  unfold Pipeline.afterTail₀
  rw [show [hostOps1 (F := Ideal)].flatten = hostOps1 from List.append_nil _]
  after_results
  have e := (left_by_region m c 5).trans (final5 m c)
  refine (congrArg (fun A : FVec Ideal S1x1 .f32 => shapeCast S_ A shapeCasts_S1x1_S_) e).trans ?_
  rfl

/-- The kernel program ends with the two results, its arguments as launched. -/
theorem kernel_run : θ_run defs (onTc (τ := τ) (main (F := Ideal))) ⟨m, fun _ => 0, ρ⟩ (fun r => ∀ c : Dev nD,
    r.2.mem ((c.tc : Thread nD τ).loc main_v4) = lpResult m c
    ∧ r.2.mem ((c.tc : Thread nD τ).loc main_v5) = lossResult m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono
    (fun r h c => ⟨((h.1 c).2 main_v4 (Pipeline.mem_restRefs_of main_v4 (by decide) (by decide))).trans (tail4 m c),
      ((h.1 c).2 main_v5 (Pipeline.mem_restRefs_of main_v5 (by decide) (by decide))).trans (tail5 m c), h.2 c⟩)
    (θ_run_and (run_main m ρ) (unchanged m ρ))

end Cert.BarDist
end
-- ==== Proof.RefRow.lean ====
module

public import proofs.«01_k».proof.Proof.Gen.ReferenceIdeal.Read
public import proofs.«01_k».proof.Proof.Row
public import proofs.«01_k».proof.Proof.Words
public import Idealize.ShloMosaic.Lib.Pointwise
public import Idealize.ShloMosaic.Lib.StableHlo.Predicate
public import Idealize.ShloMosaic.Lib.ReduceAll
public import Idealize.ShloMosaic.PureOps.Ideal.Laws

@[expose] public section
set_option maxRecDepth 16384
/-! The reference read one token at a time: the count of borders below the target, the clipped bin, the
shifted exponentials, and the entry picked at the bin. -/
noncomputable section
namespace Cert.BarDist
open Cert.ReferenceIdeal Cert.ReferenceIdeal.Gen Cert.ReferenceIdeal.Read Idealize.ShloMosaic Idealize.ShloMosaic.TcCoe Idealize.SL.Sem

/-- What the three arguments hold. -/
abbrev X0 := (⟨S32768x64, .f32⟩ : BufTy).Contents (Elt Ideal)
abbrev X1 := (⟨S32768, .f32⟩ : BufTy).Contents (Elt Ideal)
abbrev X2 := (⟨S65, .f32⟩ : BufTy).Contents (Elt Ideal)

/-- Token `i`'s logits. -/
def logitsOf (x0 : X0) (i : Fin 32768) : Fin 64 → EReal := fun k => x0 (ix2 i k)
/-- Token `i`'s target. -/
def targetOf (x1 : X1) (i : Fin 32768) : EReal := x1 (ix1 i)
/-- The borders by number. -/
def bordersOf (x2 : X2) : Fin 65 → EReal := fun j => x2 (ix1 j)

/-- The comparison's bit says whether border `j` lies below token `i`'s target. -/
theorem below_at (x1 : X1) (x2 : X2) (i : Fin 32768) (j : Fin 65) :
    val_main_v7 (F := Ideal) x1 x2 (ix2 i j) = 1#1 ↔ bordersOf x2 j < targetOf x1 i := by
  pointwise [val_main_v7, val_main_v5, val_main_v6, val_main_v4, val_main_v3]
  unfold bordersOf targetOf
  by_cases h : x2 (ix1 j) < x1 (ix1 i) <;> simp [h]

/-- The integer sum counts the borders below the target. -/
theorem count_at (x1 : X1) (x2 : X2) (i : Fin 32768) :
    (val_main_v9 (F := Ideal) x1 x2 (ix1 i)).toNat = belowCount (bordersOf x2) (targetOf x1 i) := by
  unfold val_main_v9 val_main_v8
  refine (StableHlo.Predicate.toNat_reduce_count_cols (by decide) _ _ _ _ _).trans ?_
  unfold belowCount
  congr 1
  ext q
  simp only [Finset.mem_filter, Finset.mem_univ, true_and]
  refine Iff.trans (Eq.to_iff (congrArg (fun k => val_main_v7 (F := Ideal) x1 x2 k = 1#1) ?_)) (below_at x1 x2 i q)
  funext a
  match a with
  | ⟨0, _⟩ => rfl
  | ⟨1, _⟩ => rfl

/-- Counting word arithmetic: count less one, clipped to the bins, at each possible count. -/
theorem clip_word_fin : ∀ n : Fin 66, IntOp.minsi 63#32 (IntOp.maxsi 0#32 (IntOp.subi (BitVec.ofNat 32 n.val) 1#32))
    = BitVec.ofNat 32 (min 63 (n.val - 1)) := by decide +kernel

/-- The same at a word known by its value. -/
theorem clip_word {c : BitVec 32} {n : ℕ} (hc : c.toNat = n) (hn : n ≤ 65) :
    IntOp.minsi 63#32 (IntOp.maxsi 0#32 (IntOp.subi c 1#32)) = BitVec.ofNat 32 (min 63 (n - 1)) := by
  have h : c = BitVec.ofNat 32 n := by rw [← hc, BitVec.ofNat_toNat, BitVec.setWidth_eq]
  rw [h]
  exact clip_word_fin ⟨n, by omega⟩

/-- The clipped count is the bin's number, as a word. -/
theorem bin_word_at (x1 : X1) (x2 : X2) (i : Fin 32768) :
    val_main_v12 (F := Ideal) x1 x2 (ix1 i) = BitVec.ofNat 32 (bin (bordersOf x2) (targetOf x1 i)).val := by
  have h := clip_word (count_at x1 x2 i) (belowCount_le _ _)
  refine Eq.trans ?_ h
  pointwise [val_main_v12, val_main_call0_v4, val_main_call0_v3, val_main_c_2, val_main_call0_v2, val_main_call0_v1,
    val_main_call0_v0, val_main_c_1, val_main_v11, val_main_v10, val_main_c_0]
  rfl

/-- A bin number is not negative, so it is not wrapped. -/
theorem wrap_word : ∀ t : Fin 64, Scalar.select (IntOp.cmpi .slt (BitVec.ofNat 32 t.val) 0#32)
    (IntOp.addi (BitVec.ofNat 32 t.val) 64#32) (BitVec.ofNat 32 t.val) = BitVec.ofNat 32 t.val := by decide +kernel

/-- A bin number passes the range test. -/
theorem range_word : ∀ t : Fin 64, IntOp.andi (IntOp.cmpi .sge (BitVec.ofNat 32 t.val) 0#32)
    (IntOp.cmpi .sle (BitVec.ofNat 32 t.val) 63#32) = 1#1 := by decide +kernel

/-- A bin number read back as a position. -/
theorem toInt_word : ∀ t : Fin 64, min (BitVec.ofNat 32 t.val).toInt.toNat 63 = t.val := by decide +kernel

/-- The index handed to the gather is the bin's number. -/
theorem index_at (x1 : X1) (x2 : X2) (i : Fin 32768) (p : Fin 1) :
    val_main_call2_v4 (F := Ideal) x1 x2 (ix2 i p) = BitVec.ofNat 32 (bin (bordersOf x2) (targetOf x1 i)).val := by
  refine Eq.trans ?_ (wrap_word (bin (bordersOf x2) (targetOf x1 i)))
  rw [← bin_word_at]
  pointwise [val_main_call2_v4, val_main_call2_v3, val_main_call2_v2, val_main_call2_c_0, val_main_call2_v1,
    val_main_call2_v0, val_main_call2_c, val_main_v18]

/-- The same number with a further axis of length one. -/
theorem index3_at (x1 : X1) (x2 : X2) (i : Fin 32768) (p q : Fin 1) :
    val_main_call2_v5 (F := Ideal) x1 x2 (ix3 i p q) = BitVec.ofNat 32 (bin (bordersOf x2) (targetOf x1 i)).val := by
  rw [val_main_call2_v5_apply, ← index_at x1 x2 i 0]
  refine congrArg _ (funext fun a => Fin.ext ?_)
  have hp := p.isLt
  have hq := q.isLt
  match a with
  | ⟨0, _⟩ =>
    show ((i.val * 1 + p.val) * 1 + q.val) / 1 = i.val
    omega
  | ⟨1, _⟩ => rfl

/-- The index is in range at every token, so the filled value never shows. -/
theorem mask_at (x1 : X1) (x2 : X2) (i : S32768x1x1.Idx) : val_main_call2_v11 (F := Ideal) x1 x2 i = 1#1 := by
  idx_vars i
  refine Eq.trans ?_ (range_word (bin (bordersOf x2) (targetOf x1 i0)))
  rw [← index3_at x1 x2 i0 i1 i2]
  pointwise [val_main_call2_v11, val_main_call2_v10, val_main_call2_v9, val_main_call2_v8, val_main_call2_v7,
    val_main_call2_v6, val_main_call2_c_1, val_main_call2_c_2]

/-- So the range test holds of the whole index. -/
theorem maskAll_at (x1 : X1) (x2 : X2) (i : S32768x1.Idx) : val_main_call2_v12 (F := Ideal) x1 x2 i = 1#1 := by
  unfold val_main_call2_v12
  exact Host.reduce_andi_one _ _ _ _ _ rfl (mask_at x1 x2)

/-- The gather along the second axis of a table with one index per row, read at row `i`. -/
theorem gather_at (x : FVec Ideal S32768x64 .f32) (w : IVec S32768x1x1 32) (i : Fin 32768) (t : Fin 64)
    (h : w (ix3 i 0 0) = BitVec.ofNat 32 t.val) :
    Host.gather gather_S32768x64_S32768x1x1_S32768x1_n_1_0_0_1_2_11 x w (ix2 i 0) = x (ix2 i t) := by
  unfold Host.gather
  refine congrArg x (funext fun a => Fin.ext ?_)
  show GatherDims.start _ _ w a + GatherDims.batchCoord _ _ a + GatherDims.offCoord _ _ a = _
  have hoff : ∀ a : Fin 2, GatherDims.offCoord gather_S32768x64_S32768x1x1_S32768x1_n_1_0_0_1_2_11 (ix2 i 0) a = 0 := fun a =>
    GatherDims.offCoord_eq_zero _ _ _ fun hk => by
      have hk := (GatherDims.mem_sKept _ _).mp hk
      match a with
      | ⟨0, _⟩ => exact hk.2 (List.mem_singleton.mpr rfl)
      | ⟨1, _⟩ => exact hk.1 (List.mem_singleton.mpr rfl)
  rw [hoff]
  have ha : a = (0 : Fin 2) ∨ a = (1 : Fin 2) := by
    match a with
    | ⟨0, _⟩ => exact Or.inl rfl
    | ⟨1, _⟩ => exact Or.inr rfl
  rcases ha with rfl | rfl
  · rw [GatherDims.start_batching _ _ _ _ (List.mem_singleton.mpr rfl)]
    unfold GatherDims.batchCoord
    rw [dif_pos (show (0 : Fin 2) ∈ gather_S32768x64_S32768x1x1_S32768x1_n_1_0_0_1_2_11.operandBatchingDims
      from List.mem_singleton.mpr rfl)]
    simp only [Nat.zero_add, Nat.add_zero]
    rfl
  · rw [GatherDims.batchCoord_eq_zero _ _ _ (fun h => absurd (List.mem_singleton.mp h) (by decide))]
    unfold GatherDims.start
    rw [dif_pos (show (1 : Fin 2) ∈ gather_S32768x64_S32768x1x1_S32768x1_n_1_0_0_1_2_11.startIndexMap
      from List.mem_singleton.mpr rfl)]
    simp only [Nat.add_zero]
    refine Eq.trans ?_ (toInt_word t)
    rw [← h]
    refine congrArg (fun k => min (w k).toInt.toNat 63) (funext fun b => Fin.ext ?_)
    match b with
    | ⟨0, _⟩ => rfl
    | ⟨1, _⟩ => rfl
    | ⟨2, _⟩ => rfl

/-- The row maximum from minus infinity is the supremum of the row. -/
theorem rowMax (x : FVec Ideal S32768x64 .f32) (i : Fin 32768) :
    Host.reduce FloatOps.maximumf x (val_main_call1_cst (F := Ideal)) reducesTo_S32768x64_S32768_d1 h_S_ (ix1 i)
      = Finset.univ.sup fun k => x (ix2 i k) := by
  rw [Host.reduce_eq_fold_single _ _ _ _ (by decide), val_main_call1_cst_apply, Ideal.ofBits_def, negInf_word]
  refine Finset.fold_congr fun k _ => ?_
  exact congrArg x (funext fun a => Fin.ext (by match a with | ⟨0, _⟩ => rfl | ⟨1, _⟩ => rfl))

/-- The reference's row maximum. -/
theorem max_at (x0 : X0) (i : Fin 32768) :
    val_main_call1_v2 (F := Ideal) x0 (ix1 i) = Finset.univ.sup (logitsOf x0 i) := by
  rw [val_main_call1_v2_apply, val_main_call1_v1_apply, val_main_call1_cst_0_apply, Ideal.ofBits_def, negInf_word]
  unfold val_main_call1_v0
  rw [rowMax]
  exact bot_sup_eq _

/-- The table of width-adjusted log probabilities, at one token and bin. -/
theorem scaled_at (x0 : X0) (x2 : X2) (i : Fin 32768) (k : Fin 64) :
    val_main_v17 (F := Ideal) x0 x2 (ix2 i k)
      = logitsOf x0 i k - Finset.univ.sup (logitsOf x0 i)
        - Ideal.log (∑ j, Ideal.exp (logitsOf x0 i j - Finset.univ.sup (logitsOf x0 i)))
        - Ideal.log (width (bordersOf x2) k) := by
  rw [← max_at]
  pointwise [val_main_v17, val_main_v16, val_main_v15, val_main_v14, val_main_v13, val_main_v2, val_main_v1, val_main_v0,
    val_main_call1_v10, val_main_call1_v9, val_main_call1_v8, val_main_call1_v7, val_main_call1_v6, val_main_call1_v5,
    val_main_call1_v4, val_main_call1_v3, val_main_call1_cst_1]
  unfold logitsOf width bordersOf
  have e1 : (⟨1 + k.val, by omega⟩ : Fin 65) = k.succ := Fin.ext (Nat.add_comm _ _)
  have e0 : (⟨k.val, by omega⟩ : Fin 65) = k.castSucc := rfl
  rw [e1, e0]

/-- The reference's first result at a token is the row formula. -/
theorem refLogProb_at (x0 : X0) (x1 : X1) (x2 : X2) (i : Fin 32768) :
    val_main_v20 (F := Ideal) x0 x1 x2 (ix1 i) = refRow (logitsOf x0 i) (targetOf x1 i) (bordersOf x2) := by
  rw [val_main_v20_apply]
  have e : idx_main_v20 (ix1 i) = ix2 i 0 := by
    funext a
    match a with
    | ⟨0, _⟩ => exact Fin.ext (Nat.div_one _)
    | ⟨1, _⟩ => rfl
  rw [e, val_main_v19_apply, maskAll_at]
  unfold val_main_call2_v13
  refine (gather_at (val_main_v17 (F := Ideal) x0 x2) _ i (bin (bordersOf x2) (targetOf x1 i)) (index3_at x1 x2 i 0 0)).trans ?_
  rw [scaled_at]
  rfl

/-- The reference's second result: the negated mean of the first. -/
theorem refLoss_at (x0 : X0) (x1 : X1) (x2 : X2) (p : S_.Idx) :
    val_main_v23 (F := Ideal) x0 x1 x2 p
      = - Ideal.div (∑ i : Fin 32768, val_main_v20 (F := Ideal) x0 x1 x2 (ix1 i)) (Ideal.ofBits .f32 0x47000000#32) := by
  pointwise [val_main_v23, val_main_v22, val_main_v21, val_main_cst, val_main_cst_3]

end Cert.BarDist
end
-- ==== Proof.Pre.lean ====
module

public import proofs.«01_k».proof.Proof.Gen.Pre_sorted_borders
public import proofs.«01_k».proof.Proof.RefRow
public import Idealize.ShloMosaic.Lib.ReduceAll
public import Idealize.ShloMosaic.Lib.Pipeline.ValueKit

@[expose] public section
set_option maxRecDepth 16384
/-! The precondition read back: the borders never decrease, the outer bins have positive width, and no
target is minus infinity. -/
noncomputable section
namespace Cert.BarDist
open Idealize.ShloMosaic Cert.Pre_sorted_borders

/-- A truth bit is set exactly when the proposition holds. -/
theorem of_bit (p : Prop) [Decidable p] (h : BitVec.ofBool (decide p) = 1#1) : p := by
  by_cases hp : p
  · exact hp
  · simp [hp] at h

/-- What the precondition says of the arguments. -/
theorem pre_read (x0 : X0) (x1 : X1) (x2 : X2) (h : Cert.Pre_sorted_borders.fn (F := Ideal) x0 x1 x2 = fun _ => 1#1) :
    Monotone (bordersOf x2) ∧ bordersOf x2 0 < bordersOf x2 1 ∧ bordersOf x2 63 < bordersOf x2 64
      ∧ ∀ i, targetOf x1 i ≠ ⊥ := by
  have e := congrFun h (fun a => a.elim0)
  dsimp only [Cert.Pre_sorted_borders.fn] at e
  obtain ⟨e, hTarget⟩ := IntOp.andi_eq_one.mp e
  obtain ⟨e, hLast⟩ := IntOp.andi_eq_one.mp e
  obtain ⟨hSorted, hFirst⟩ := IntOp.andi_eq_one.mp e
  haveI : Subsingleton S_.Idx := ⟨fun a b => funext fun k => k.elim0⟩
  refine ⟨Fin.monotone_iff_le_succ.mpr fun k => of_bit _ ?_, of_bit _ ?_, of_bit _ ?_, fun i => ?_⟩
  · have hk := Host.reduce_andi_all _ _ _ _ _ hSorted (ix1 k : S64.Idx)
    revert hk
    pointwise [bordersOf]
    rw [show (⟨1 + k.val, by omega⟩ : Fin 65) = k.succ from Fin.ext (Nat.add_comm _ _)]
    exact id
  · have hk := Host.reduce_andi_all _ _ _ _ _ hFirst (ix1 0 : S1.Idx)
    revert hk
    pointwise [bordersOf]
    exact id
  · have hk := Host.reduce_andi_all _ _ _ _ _ hLast (ix1 0 : S1.Idx)
    revert hk
    pointwise [bordersOf]
    exact id
  · have hi := Host.reduce_andi_all _ _ _ _ _ hTarget (ix1 i : S32768.Idx)
    suffices (⊥ : EReal) < targetOf x1 i from this.ne'
    refine of_bit _ ?_
    revert hi
    rw [← negInf_word]
    pointwise [targetOf]
    exact id

end Cert.BarDist
end
-- ==== Proof.Agree.lean ====
module

public import proofs.«01_k».proof.Proof.KernelTail
public import proofs.«01_k».proof.Proof.Pre

@[expose] public section
set_option maxRecDepth 16384
/-! The kernel's results are the reference's, where the precondition holds. -/
noncomputable section
namespace Cert.BarDist
open Idealize.ShloMosaic Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- Token by token, the kernel's log-density is the reference's. -/
theorem tokenLp_eq (h : Cert.Pre_sorted_borders.fn (F := Ideal) (arg0 m c) (arg1 m c) (arg2 m c) = fun _ => 1#1) (i : Fin 32768) :
    tokenLp m c i = Cert.ReferenceIdeal.Read.val_main_v20 (F := Ideal) (arg0 m c) (arg1 m c) (arg2 m c) (ix1 i) := by
  obtain ⟨hb, h0, h63, hy⟩ := pre_read _ _ _ h
  rw [refLogProb_at]
  exact kernelRow_eq_refRow hb h0 h63 (hy i) (logitsOf (arg0 m c) i)

/-- The first result of both programs. -/
theorem lp_agree (h : Cert.Pre_sorted_borders.fn (F := Ideal) (arg0 m c) (arg1 m c) (arg2 m c) = fun _ => 1#1) :
    Cert.ReferenceIdeal.Read.val_main_v20 (F := Ideal) (arg0 m c) (arg1 m c) (arg2 m c) = lpResult m c := by
  funext y
  obtain ⟨i, rfl⟩ : ∃ i : Fin 32768, y = ix1 i := ⟨y 0, by funext a; fin_cases a; rfl⟩
  exact (tokenLp_eq m c h i).symm

/-- The second result of both programs: a negated mean is the mean of the negated sum. -/
theorem loss_agree (h : Cert.Pre_sorted_borders.fn (F := Ideal) (arg0 m c) (arg1 m c) (arg2 m c) = fun _ => 1#1) :
    Cert.ReferenceIdeal.Read.val_main_v23 (F := Ideal) (arg0 m c) (arg1 m c) (arg2 m c) = lossResult m c := by
  funext y
  rw [refLoss_at, ← neg_mean, Finset.sum_congr rfl fun i _ => (tokenLp_eq m c h i).symm]
  rfl

end Cert.BarDist
end
-- ==== Proof.lean ====
/- The proof of all that is claimed of the bar-distribution kernel: the three frames, that the idealized
   kernel is the kernel's idealization, and that the kernel's two results are the reference's. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_sorted_borders
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's frame. -/
theorem frame_kernel : Cert.quiescent_Kernel := fun m g _ => Cert.Kernel.Gen.frame m g

/-- The idealized kernel's frame. -/
theorem frame_ideal : Cert.quiescent_KernelIdeal := fun m g _ => Cert.KernelIdeal.Gen.frame m g

/-- The same where the precondition holds. -/
theorem frame_ideal_pre : Cert.quiescent_KernelIdeal_pre_sorted_borders := fun m g _ => Cert.KernelIdeal.Gen.frame m g

/-- The reference ends with its arguments as launched; it declares no semaphore. -/
theorem frame_ref : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- The same where the precondition holds. -/
theorem frame_ref_pre : Cert.quiescent_ReferenceIdeal_pre_sorted_borders := fun m g _ => frame_ref m g trivial

/-- The kernel's two results are the reference's. -/
theorem agree : Cert.algebraic_KernelIdeal_ReferenceIdeal_pre_sorted_borders := by
  intro m g m' g' hpre hagree
  refine ⟨fun c => Cert.BarDist.lpResult m c, fun c => Cert.BarDist.lossResult m c, Cert.BarDist.kernel_run m g, ?_⟩
  refine (θ_run Cert.ReferenceIdeal.defs _ _).mono (fun r h c => ⟨(h c).1.trans ?_, (h c).2.1.trans ?_, (h c).2.2⟩)
    (Cert.ReferenceIdeal.Value.run (F := Ideal) m' g')
  · rw [Cert.ReferenceIdeal.Read.val_main_v20_eq, (hagree c).1, (hagree c).2.1, (hagree c).2.2]
    exact Cert.BarDist.lp_agree m c (hpre c)
  · rw [Cert.ReferenceIdeal.Read.val_main_v23_eq, (hagree c).1, (hagree c).2.1, (hagree c).2.2]
    exact Cert.BarDist.loss_agree m c (hpre c)

/-- All that is claimed. -/
theorem claim : Cert.Claim := ⟨Cert.Kernel.Gen.facts, Cert.KernelIdeal.Gen.facts, Cert.ReferenceIdeal.Gen.facts,
  Cert.Pre_sorted_borders.Gen.facts, frame_kernel, frame_ideal, frame_ideal_pre, frame_ref, frame_ref_pre, trivial, agree⟩

end Cert.Proof

end
